-- ==== Defs.lean ====
def Pre_Kernel [hPre_inds_in_range : Cert.Pre_inds_in_range.Facts] (m : (ℓ : Loc Cert.Kernel.nD Cert.Kernel.τ Cert.Kernel.sig) → Buf (Elt Bits) ℓ) : Prop :=
  ∀ c : Dev Cert.Kernel.nD,
    (Cert.Pre_inds_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_inds_in_range : Cert.Pre_inds_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inds_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inds_in_range [hPre_inds_in_range : Cert.Pre_inds_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inds_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_inds_in_range : Cert.Pre_inds_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_inds_in_range : Cert.Pre_inds_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inds_in_range [hReferenceIdeal : Cert.ReferenceIdeal.Facts] [hPre_inds_in_range : Cert.Pre_inds_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inds_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inds_in_range : Cert.Pre_inds_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inds_in_range : Cert.Pre_inds_in_range.Facts),
    quiescent_Kernel (hKernel := hKernel) (hPre_inds_in_range := hPre_inds_in_range)
    ∧ quiescent_KernelIdeal (hKernelIdeal := hKernelIdeal) (hPre_inds_in_range := hPre_inds_in_range)
    ∧ quiescent_ReferenceIdeal (hReferenceIdeal := hReferenceIdeal)
    ∧ quiescent_ReferenceIdeal_pre_inds_in_range (hReferenceIdeal := hReferenceIdeal) (hPre_inds_in_range := hPre_inds_in_range)
    ∧ preserves_Kernel_KernelIdeal
    ∧ algebraic_KernelIdeal_ReferenceIdeal (hKernelIdeal := hKernelIdeal) (hReferenceIdeal := hReferenceIdeal) (hPre_inds_in_range := hPre_inds_in_range)
-- ==== Pre_inds_in_range.lean ====
abbrev S100000x128 : Shape := ⟨2, ![100000, 128]⟩
abbrev S200000x16 : Shape := ⟨2, ![200000, 16]⟩
abbrev S200000x1 : Shape := ⟨2, ![200000, 1]⟩
abbrev S200000 : Shape := ⟨1, ![200000]⟩
abbrev S_ : Shape := ⟨0, ![]⟩

class Facts : Prop where
  slices_S200000x16_S200000x1_0_0 : S200000x16.Slices ![0, 0] S200000x1
  shapeCasts_S200000x1_S200000 : S200000x1.ShapeCasts S200000
  bcast_S_S200000 : S_.BroadcastsInDim S200000 (![] : Fin 0 → Fin S200000.rank)
  reducesTo_S200000_S_d0 : S200000.ReducesTo [0] S_
  h_S_ : 0 < S_.numel

variable [Facts]

def fn {F : FTy → Type} [FloatOps F] (main_arg0 : FVec F S100000x128 .f32) (main_arg1 : IVec S200000x16 32) : IVec S_ 1 :=
  let main_v0 : IVec S200000x1 32 := (extractStridedSlice S200000x1 ![0, 0] · slices_S200000x16_S200000x1_0_0) main_arg1
  let main_v1 : IVec S200000 32 := shapeCast S200000 main_v0 shapeCasts_S200000x1_S200000
  let main_c : IVec S_ 32 := constantI S_ 32 0#32
  let main_v2 : IVec S200000 32 := broadcastInDim S200000 ![] bcast_S_S200000 main_c
  let main_v3 : IVec S200000 1 := cmpi .sge main_v1 main_v2
  let main_c_0 : IVec S_ 32 := constantI S_ 32 100000#32
  let main_v4 : IVec S200000 32 := broadcastInDim S200000 ![] bcast_S_S200000 main_c_0
  let main_v5 : IVec S200000 1 := cmpi .slt main_v1 main_v4
  let main_v6 : IVec S200000 1 := andi main_v3 main_v5
  let main_c_1 : IVec S_ 1 := constantI S_ 1 1#1
  let main_v7 : IVec S_ 1 := (fun x v => Host.reduce IntOp.andi x v reducesTo_S200000_S_d0 h_S_) main_v6 main_c_1
  main_v7
-- ==== Kernel.lean ====
abbrev S100000x128 : Shape := ⟨2, ![100000, 128]⟩
abbrev S200000x16 : Shape := ⟨2, ![200000, 16]⟩
abbrev S200000x1 : Shape := ⟨2, ![200000, 1]⟩
abbrev S200000 : Shape := ⟨1, ![200000]⟩
abbrev S_ : Shape := ⟨0, ![]⟩
abbrev S200704 : Shape := ⟨1, ![200704]⟩
abbrev S200704x128 : Shape := ⟨2, ![200704, 128]⟩
abbrev S128 : Shape := ⟨1, ![128]⟩
abbrev S128x128 : Shape := ⟨2, ![128, 128]⟩
abbrev S200000x128 : Shape := ⟨2, ![200000, 128]⟩

abbrev nBuf : Table → Nat
  | .hbm => 9
  | .local .scVector .vmem => 2
  | _ => 0

abbrev bufTy : (tb : Table) → Fin (nBuf tb) → BufTy
  | .hbm, ⟨0, _⟩ => ⟨S100000x128, .f32⟩
  | .hbm, ⟨1, _⟩ => ⟨S200000x16, .i32⟩
  | .hbm, ⟨2, _⟩ => ⟨S200000x1, .i32⟩
  | .hbm, ⟨3, _⟩ => ⟨S200000, .i32⟩
  | .hbm, ⟨4, _⟩ => ⟨S_, .i32⟩
  | .hbm, ⟨5, _⟩ => ⟨S_, .i32⟩
  | .hbm, ⟨6, _⟩ => ⟨S200704, .i32⟩
  | .hbm, ⟨7, _⟩ => ⟨S200704x128, .f32⟩
  | .hbm, ⟨8, _⟩ => ⟨S200000x128, .f32⟩
  | .local .scVector .vmem, ⟨0, _⟩ => ⟨S128, .i32⟩
  | .local .scVector .vmem, ⟨1, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c49_i32 : BitVec 32 := 49#32
  let v3 : BitVec 32 := Scalar.addi c0_i32 c49_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6272_i32 : BitVec 32 := 6272#32
  let v2 : BitVec 32 := Scalar.muli v1 c6272_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c128_i32 : BitVec 32 := 128#32
  let v6 : BitVec 32 := Scalar.muli v5 c128_i32
  let v7 : BitVec 32 := Scalar.addi v2 v6
  ![v7.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6272_i32 : BitVec 32 := 6272#32
  let v2 : BitVec 32 := Scalar.muli v1 c6272_i32
  let c0_i32_2 : BitVec 32 := 0#32
  let c0_i32 : BitVec 32 := 0#32
  let c1_i32 : BitVec 32 := 1#32
  let arg8 : BitVec 32 := Scf.iv c0_i32 c1_i32 k0_t1
  let c1_i32_1 : BitVec 32 := 1#32
  let v4 : BitVec 32 := Scalar.muli arg8 c1_i32_1
  let v5 : BitVec 32 := Scalar.addi c0_i32_2 v4
  let c128_i32 : BitVec 32 := 128#32
  let v6 : BitVec 32 := Scalar.muli v5 c128_i32
  let v7 : BitVec 32 := Scalar.addi v2 v6
  let c0_i32_7_r1 : BitVec 32 := 0#32
  ![v7.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S200000x16 : Shape := ⟨2, ![200000, 16]⟩
abbrev S1x128 : Shape := ⟨2, ![1, 128]⟩
abbrev S_ : Shape := ⟨0, ![]⟩
abbrev S100001x128 : Shape := ⟨2, ![100001, 128]⟩
abbrev S200000x1 : Shape := ⟨2, ![200000, 1]⟩
abbrev S200000 : Shape := ⟨1, ![200000]⟩
abbrev S1 : Shape := ⟨1, ![1]⟩
abbrev S1x1 : Shape := ⟨2, ![1, 1]⟩
abbrev S200000x128 : Shape := ⟨2, ![200000, 128]⟩

abbrev nBuf : Space → Nat
  | .hbm => 31
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x16, .i32⟩
  | .hbm, ⟨2, _⟩ => ⟨S1x128, .f32⟩
  | .hbm, ⟨3, _⟩ => ⟨S_, .f32⟩
  | .hbm, ⟨4, _⟩ => ⟨S1x128, .f32⟩
  | .hbm, ⟨5, _⟩ => ⟨S100001x128, .f32⟩
  | .hbm, ⟨6, _⟩ => ⟨S200000x1, .i32⟩
  | .hbm, ⟨7, _⟩ => ⟨S200000, .i32⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S200000x1, .i32⟩
  | .hbm, ⟨16, _⟩ => ⟨S1, .i32⟩
  | .hbm, ⟨17, _⟩ => ⟨S_, .i32⟩
  | .hbm, ⟨18, _⟩ => ⟨S200000x1, .i32⟩
  | .hbm, ⟨19, _⟩ => ⟨S200000x1, .i1⟩
  | .hbm, ⟨20, _⟩ => ⟨S1x1, .i32⟩
  | .hbm, ⟨21, _⟩ => ⟨S200000x1, .i32⟩
  | .hbm, ⟨22, _⟩ => ⟨S200000x1, .i1⟩
  | .hbm, ⟨23, _⟩ => ⟨S200000x1, .i1⟩
  | .hbm, ⟨24, _⟩ => ⟨S_, .i1⟩
  | .hbm, ⟨25, _⟩ => ⟨S200000, .i1⟩
  | .hbm, ⟨26, _⟩ => ⟨S200000x128, .f32⟩
  | .hbm, ⟨27, _⟩ => ⟨S200000x128, .i1⟩
  | .hbm, ⟨28, _⟩ => ⟨S_, .f32⟩
  | .hbm, ⟨29, _⟩ => ⟨S200000x128, .f32⟩
  | .hbm, ⟨30, _⟩ => ⟨S200000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Spec.lean ====
/-
  What the kernel computes, as plain functions of the arrays: the padded index list, and the array whose row `r` is the
  row of `x` that the list names at `r`.
-/
module

public import Idealize.ShloMosaic.Lib.ValueIdx
public import Idealize.ShloMosaic.Lib.KernelVsHost

@[expose] public section

namespace Cert.Proof.Spec

open Idealize.ShloMosaic Idealize.ShloMosaic.ValueIdx

/-- The row number that a word of the index list names, cut off at the last row of `x`. -/
def rowOf (w : BitVec 32) : Fin 100000 := ⟨min w.toNat 99999, by omega⟩

/-- Below the number of rows a word names its own value. -/
theorem rowOf_val {w : BitVec 32} (h : w.toNat < 100000) : (rowOf w).val = w.toNat := by
  show min w.toNat 99999 = _
  omega

/-- Row `r` of the result is row `rowOf (I r)` of `X`, over all 200704 entries of the padded list. -/
def picked {α : Type} (X : (⟨2, ![100000, 128]⟩ : Shape).Idx → α) (I : (⟨1, ![200704]⟩ : Shape).Idx → BitVec 32) :
    (⟨2, ![200704, 128]⟩ : Shape).Idx → α :=
  fun j => X (ix2 (rowOf (I (ix1 ⟨(j 0).val, idx2_lt0 j⟩))) ⟨(j 1).val, idx2_lt1 j⟩)

end Cert.Proof.Spec
-- ==== Proof.Taken.lean ====
/-
  The value both programs are compared with, and the condition on the index list it needs: the list's first column names
  rows of `x`, and row `r` of the result is the row of `x` that the column names at `r`.
-/
module

public import proofs.«01_k».proof.Proof.Spec
public import Idealize.ShloMosaic.Lib.Pipeline.Value
public import Idealize.ShloMosaic.Lib.IdealHost
public import Idealize.ShloMosaic.Lib.ReduceAll
public import Idealize.ShloMosaic.Lib.StableHlo.RunHlo

@[expose] public section

namespace Cert.Proof.Spec

open Idealize.ShloMosaic Idealize.ShloMosaic.ValueIdx

/-- The index list's first column. -/
def column (a : (⟨2, ![200000, 16]⟩ : Shape).Idx → BitVec 32) : (⟨1, ![200000]⟩ : Shape).Idx → BitVec 32 :=
  fun j => a (ix2 (j 0) 0)

/-- Every word of the first column names a row of `x`. -/
def InRange (a : (⟨2, ![200000, 16]⟩ : Shape).Idx → BitVec 32) : Prop := ∀ j, (column a j).toNat < 100000

/-- Row `r` of the result is row `rowOf (column a r)` of `X`. -/
def taken {α : Type} (X : (⟨2, ![100000, 128]⟩ : Shape).Idx → α) (a : (⟨2, ![200000, 16]⟩ : Shape).Idx → BitVec 32) :
    (⟨2, ![200000, 128]⟩ : Shape).Idx → α :=
  fun j => X (ix2 (rowOf (column a (ix1 (j 0)))) (j 1))

/-- The slice of the first column and its reshape to a vector make `column`. -/
theorem column_eq (a : (⟨2, ![200000, 16]⟩ : Shape).Idx → BitVec 32)
    (hs : (⟨2, ![200000, 16]⟩ : Shape).Slices ![0, 0] ⟨2, ![200000, 1]⟩)
    (hc : (⟨2, ![200000, 1]⟩ : Shape).ShapeCasts ⟨1, ![200000]⟩) :
    shapeCast ⟨1, ![200000]⟩ (extractStridedSlice ⟨2, ![200000, 1]⟩ ![0, 0] a hs) hc = column a := by
  funext j
  rw [shapeCast_apply _ hc j (ix2 (n0 := 200000) (n1 := 1) (j 0) 0) (by
    rw [Shape.rowMajor_val_two, Shape.rowMajor_val_one]
    show (j 0).val * 1 + 0 = (j 0).val
    omega)]
  refine extractStridedSlice_apply _ a hs _ _ fun b => ?_
  match b with
  | ⟨0, _⟩ => exact (Nat.zero_add _).symm
  | ⟨1, _⟩ => rfl

/-- A word that is at least 0 and below 100000 as a signed number is below 100000 as a natural number. -/
theorem toNat_lt_of_cmpi {w : BitVec 32}
    (h : IntOp.andi (IntOp.cmpi .sge w 0#32) (IntOp.cmpi .slt w 100000#32) = 1#1) : w.toNat < 100000 := by
  obtain ⟨h0, h1⟩ := IntOp.andi_eq_one.1 h
  rw [IntOp.cmpi_sge] at h0
  rw [IntOp.cmpi_slt] at h1
  simp only [BitVec.toInt_eq_toNat_cond, BitVec.toNat_ofNat, Nat.reducePow, Nat.reduceMod] at h0 h1
  omega

/-- A word below 100000 is the same number read signed. -/
theorem toInt_of_lt {w : BitVec 32} (h : w.toNat < 100000) : w.toInt = w.toNat := by
  rw [BitVec.toInt_eq_toNat_cond, if_pos (by simp only [Nat.reducePow]; omega)]

/-! ## The kernel's padded list -/

section Padded

variable (hp : (⟨1, ![200000]⟩ : Shape).Pads ![0] ![704] ![0] ⟨1, ![200704]⟩) (hu : 0 < (⟨0, ![]⟩ : Shape).numel)

/-- The first 200000 entries of the padded list are the column. -/
theorem padded_apply (v : (⟨1, ![200000]⟩ : Shape).Idx → BitVec 32) (j : (⟨1, ![200704]⟩ : Shape).Idx) (h : (j 0).val < 200000) :
    pad ⟨1, ![200704]⟩ ![0] ![704] ![0] v (constantI ⟨0, ![]⟩ 32 0#32) hp hu j = v (ix1 ⟨(j 0).val, h⟩) := by
  refine pad_apply_of_inside _ _ _ v _ hp hu j _ fun b => ?_
  match b with
  | ⟨0, _⟩ =>
    show (j 0).val = 0 + (j 0).val * (0 + 1)
    omega

/-- Every entry of the padded list names a row of `x`: the column's entries by the condition, the others are 0. -/
theorem padded_lt {a : (⟨2, ![200000, 16]⟩ : Shape).Idx → BitVec 32} (h : InRange a) (j : (⟨1, ![200704]⟩ : Shape).Idx) :
    (pad ⟨1, ![200704]⟩ ![0] ![704] ![0] (column a) (constantI ⟨0, ![]⟩ 32 0#32) hp hu j).toNat < 100000 := by
  by_cases hj : (j 0).val < 200000
  · rw [padded_apply hp hu _ j hj]
    exact h _
  · rw [pad_apply_of_not_inside _ _ _ _ _ hp hu j 0 fun hin => hj ?_]
    · show (0#32).toNat < 100000
      simp
    · have h2 : ((j 0).val - 0) / (0 + 1) < 200000 := hin.2.2
      omega

/-- The first 200000 rows the kernel picks by the padded list are `taken`. -/
theorem slice_picked {α : Type} (X : (⟨2, ![100000, 128]⟩ : Shape).Idx → α) (a : (⟨2, ![200000, 16]⟩ : Shape).Idx → BitVec 32)
    (hs : (⟨2, ![200704, 128]⟩ : Shape).Slices ![0, 0] ⟨2, ![200000, 128]⟩) :
    extractStridedSlice ⟨2, ![200000, 128]⟩ ![0, 0]
      (picked X (pad ⟨1, ![200704]⟩ ![0] ![704] ![0] (column a) (constantI ⟨0, ![]⟩ 32 0#32) hp hu)) hs = taken X a := by
  funext j
  have h0 : (j 0).val < 200000 := idx2_lt0 j
  rw [extractStridedSlice_apply _ _ hs j (ix2 (n0 := 200704) (n1 := 128) ⟨(j 0).val, by omega⟩ (j 1)) fun b => by
    match b with
    | ⟨0, _⟩ => exact (Nat.zero_add _).symm
    | ⟨1, _⟩ => exact (Nat.zero_add _).symm]
  unfold picked taken
  rw [padded_apply hp hu (column a) _ h0]
  rfl

end Padded

end Cert.Proof.Spec
-- ==== Proof.Precondition.lean ====
/-
  The precondition on the index list, read back: where it is 1, every word of the first column names a row of `x`.
-/
module

public import proofs.«01_k».proof.Proof.Taken
public import proofs.«01_k».proof.Proof.Gen.Pre_inds_in_range

@[expose] public section

namespace Cert.Proof.Spec

open Cert.Pre_inds_in_range Cert.Pre_inds_in_range.Gen
open Idealize.ShloMosaic Idealize.ShloMosaic.ValueIdx

instance : Subsingleton Cert.Pre_inds_in_range.S_.Idx := ⟨fun i j => (eq_ix0 i).trans (eq_ix0 j).symm⟩

/-- Where the precondition's function gives 1, the first column is in range. -/
theorem inRange_of_pre {F : FTy → Type} [FloatOps F] {X : FVec F S100000x128 .f32} {a : IVec S200000x16 32}
    (h : Cert.Pre_inds_in_range.fn X a = fun _ => 1#1) : InRange a := by
  intro j
  have e := Host.reduce_andi_all _ _ _ _ ix0 (congrFun h ix0) j
  rw [column_eq] at e
  exact toNat_lt_of_cmpi e

end Cert.Proof.Spec
-- ==== Proof.KernelClaims.lean ====
/-
  The claims about the gather program `Kernel`, from its run: it ends with its arguments unchanged and every counter at
  zero, and its result is `taken`.
-/
module

public import proofs.«01_k».proof.Defs
public import proofs.«01_k».proof.Proof.KernelMain
public import proofs.«01_k».proof.Proof.Precondition

@[expose] public section

noncomputable section

namespace Cert.Proof.KernelRun

open Cert.Kernel Cert.Kernel.Gen
open Idealize.ShloMosaic Idealize.SL.Sem
open Cert.Proof.Spec

variable {F : FTy → Type} [FloatOps F]

/-- With the list's first column in range, every entry of the list the call gets is. -/
theorem preOK_of {m : (ℓ : Loc nD τ sig) → Buf (Elt F) ℓ} (h : ∀ d, InRange (aC m d)) : PreOK m := by
  intro d j
  unfold idxList
  rw [column_eq]
  exact padded_lt _ _ (h d) j

/-- The program's result is `taken` of its two arguments. -/
theorem res_eq (m : (ℓ : Loc nD τ sig) → Buf (Elt F) ℓ) (d : Dev nD) : res m d = taken (xC m d) (aC m d) := by
  unfold res oC iC idxList
  rw [column_eq]
  exact slice_picked _ _ _ _ _

/-- `Cert.quiescent_Kernel`: from the run, read at the arguments and the counters. -/
theorem frame : Cert.quiescent_Kernel := fun m ρ hpre =>
  θ_run_mono (run_main (F := Bits) m ρ (preOK_of fun d => inRange_of_pre (hpre d)))
    fun _ h => ⟨fun c => ⟨(h.1 c).1, (h.1 c).2.1⟩, h.2⟩

end Cert.Proof.KernelRun

end
-- ==== Proof.KernelIdealTile.lean ====
/-
  One vector subcore's task of the gather kernel: 49 trips, each fetching 128 entries of the padded index list,
  gathering the rows of `x` they name by the indirect stream, and writing them out to 128 rows of the result. The loop's
  invariant says which of the task's 49 blocks of the result already hold the rows picked from `x`.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

/-! ## The program as the launch theorem sees it -/

/-- The labels of the program with its (empty) list of pipelines. -/
abbrev ΛP : Labels := Pipeline.Sig Λ₀ (Fin 0) fun p => (pcfgs (F := F) p).Adm
/-- The one SparseCore call. -/
abbrev K : SparseCore.Cfg τ sig (ΛP (F := F)) 1 := sc (F := F)
/-- The kernels' body table. -/
abbrev D [FloatOps F] : Defs nD τ sig (Elt F) (ΛP (F := F)) := Pipeline.defs pcfgs defs₀
/-- No call of the bodies needs a variant. -/
abbrev 𝒱₀ : Variants := Variants.none
/-- The same for the lifted table. -/
abbrev 𝒱 : Variants := 𝒱₀.lift
/-- The bound the launch starts from. -/
abbrev v₀ : 𝒱.V := Sum.inl none

/-- The launch's side conditions: its four semaphores are distinct where they must be and none is scoped, and no buffer
    is shared among a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The handshakes' rounds and the transfers' counters. -/
abbrev UU : Type := UH × Counters

local notation "𝕄" => MT nD τ sig (HIx 1) (Elt F) ℕ UU ℕ

/-- The rounds are the left factor. -/
abbrev EH : Emb UH (MT nD τ sig (HIx 1) (Elt F) ℕ UU ℕ) := embL

/-! ## The arrays -/

/-- `x`'s buffer. -/
abbrev xLoc (d : Dev nD) : Loc nD τ sig := (SparseCore.T d).loc main_arg0
/-- The padded index list's buffer. -/
abbrev iLoc (d : Dev nD) : Loc nD τ sig := (SparseCore.T d).loc main_v2
/-- The kernel's result's buffer. -/
abbrev oLoc (d : Dev nD) : Loc nD τ sig := (SparseCore.T d).loc main_v3

/-- `x`, the padded index list, the result and the two scratch buffers as the task addresses them. -/
abbrev xV : Memref sig Kind.scVector Space.hbm S100000x128 EltTy.f32 := Memref.whole main_arg0_scv
abbrev iV : Memref sig Kind.scVector Space.hbm S200704 EltTy.i32 := Memref.whole main_v2_scv
abbrev oV : Memref sig Kind.scVector Space.hbm S200704x128 EltTy.f32 := Memref.whole main_v3_scv
abbrev sV : Memref sig Kind.scVector Space.vmem S128 EltTy.i32 := Memref.whole cc0_scratch0
abbrev rV : Memref sig Kind.scVector Space.vmem S128x128 EltTy.f32 := Memref.whole cc0_scratch1

section Task

variable (d : Dev nD) (L : grid0.Coords) (t : Fin k0_t1_loop.trips)

/-- The SparseCore and the vector subcore at grid point `L`. -/
abbrev cV (L : grid0.Coords) : Fin τ.nSC := (L 0).castLE hcore0
abbrev jV (L : grid0.Coords) : Fin τ.nSub := (L 1).castLE hsub0
/-- The thread at grid point `L`. -/
abbrev thr (d : Dev nD) (L : grid0.Coords) : Thread nD τ := V d (cV L) (jV L)

/-- The first row of trip `t`'s block. -/
def row0 (L : grid0.Coords) (t : Fin k0_t1_loop.trips) : ℕ := 12544 * (L 1).val + 6272 * (L 0).val + 128 * t.val

/-- Trip `t`'s 128 entries of the index list, its 128 rows of the result, and all of `x`, as the task slices them. -/
abbrev iBlk (L : grid0.Coords) (t : Fin k0_t1_loop.trips) : Memref sig .scVector .hbm S128 .i32 :=
  iV.slice (Rect.unit (s := S200704) (k0_off1 L t) S128.size (k0_off1_inb L t)) (fun _ => rfl)
abbrev oBlk (L : grid0.Coords) (t : Fin k0_t1_loop.trips) : Memref sig .scVector .hbm S128x128 .f32 :=
  oV.slice (Rect.unit (s := S200704x128) (k0_off2 L t) S128x128.size (k0_off2_inb L t)) (fun _ => rfl)
abbrev xAll : Memref sig .scVector .hbm S100000x128 .f32 :=
  xV.slice (Rect.unit (s := S100000x128) ![0, 0] S100000x128.size inb_S100000x128_S100000x128_0_0) (fun _ => rfl)

/-- The elements of trip `t`'s block of the result. -/
abbrev oSet (L : grid0.Coords) (t : Fin k0_t1_loop.trips) : Finset S200704x128.Idx := (oBlk L t).view.set

/-- Entry `y` of trip `t`'s block of the list is entry `row0 + y` of the list. -/
theorem iBlk_emb (y : S128.Idx) : ((iBlk L t).view.emb y 0).val = row0 L t + (y 0).val := by
  show k0_off1 L t 0 + 1 * (y 0).val = _
  rw [k0_off1_eq, Nat.one_mul]; rfl

/-- Element `y` of trip `t`'s block of the result is in row `row0 + y 0` of the result, -/
theorem oBlk_emb0 (y : S128x128.Idx) : ((oBlk L t).view.emb y 0).val = row0 L t + (y 0).val := by
  show k0_off2 L t 0 + 1 * (y 0).val = _
  rw [k0_off2_eq, Nat.one_mul]; rfl
/-- and in its own column. -/
theorem oBlk_emb1 (y : S128x128.Idx) : ((oBlk L t).view.emb y 1).val = (y 1).val := by
  show k0_off2 L t 1 + 1 * (y 1).val = _
  rw [k0_off2_eq, Nat.one_mul]; exact Nat.zero_add _

/-- Trip `t`'s block of the result is the rows from `row0` on, 128 of them. -/
theorem mem_oSet (j : S200704x128.Idx) : j ∈ oSet L t ↔ row0 L t ≤ (j 0).val ∧ (j 0).val < row0 L t + 128 := by
  show j ∈ ((View.whole (main_v3_scv : Ref sig .scVector)).slice (Rect.unit (s := S200704x128) (k0_off2 L t) S128x128.size (k0_off2_inb L t))).set ↔ _
  rw [View.set_slice_whole]
  refine Rect.mem_set_unit.trans ?_
  rw [k0_off2_eq]
  constructor
  · intro h; exact h 0
  · intro h a
    match a with
    | ⟨0, _⟩ => exact h
    | ⟨1, _⟩ => exact ⟨Nat.zero_le _, by have := ValueIdx.idx2_lt1 (n0 := 200704) (n1 := 128) j; show (j 1).val < 0 + 128; omega⟩

/-- What the task writes to trip `t`'s block is the picked rows: the gathered rows, when the list's entries are the fetched
    block's and all of them are rows of `x`. -/
theorem gathered_eq (X : S100000x128.Idx → Elt F .f32) (I : S200704.Idx → BitVec 32) (hI : ∀ j, (I j).toNat < 100000)
    (r : Fin (S128x128.size (gathers_S100000x128_S128x128).axis') → Fin (S100000x128.size (gathers_S100000x128_S128x128).axis))
    (hr : ∀ k, (r k).val = (I ((iBlk L t).view.emb (ix1 (n := 128) k))).toNat) (y : S128x128.Idx) :
    X ((gathers_S100000x128_S128x128).idx r y) = picked X I ((oBlk L t).view.emb y) := by
  unfold picked
  congr 1
  funext a
  refine Fin.ext ?_
  match a with
  | ⟨0, _⟩ =>
    have e := congrArg Fin.val ((gathers_S100000x128_S128x128).idx_axis r y)
    refine e.trans ?_
    rw [hr]
    show _ = (rowOf _).val
    rw [rowOf_val (hI _)]
    congr 2
    funext b
    match b with
    | ⟨0, _⟩ => exact Fin.ext ((iBlk_emb L t _).trans (oBlk_emb0 L t y).symm)
  | ⟨1, _⟩ =>
    refine ((gathers_S100000x128_S128x128).idx_of_ne r y 1 (by decide)).trans ?_
    exact (oBlk_emb1 L t y).symm

end Task

/-! ## One trip -/

section Trip

variable [FloatOps F] (d : Dev nD) (L : grid0.Coords) (t : Fin k0_t1_loop.trips)

/-- The whole of a buffer held is its memref's elements held. -/
theorem pts_sSet (f : Buf (Elt F) ((sV).view.loc (thr d L))) :
    ((sV).view.loc (thr d L) ↦{fullShare} f : sProp 𝕄) = (sV).view.loc (thr d L) ↦[(sV).view.set]{fullShare} f := by
  rw [show (sV).view.set = Finset.univ from View.set_whole _]
theorem pts_rSet (f : Buf (Elt F) ((rV).view.loc (thr d L))) :
    ((rV).view.loc (thr d L) ↦{fullShare} f : sProp 𝕄) = (rV).view.loc (thr d L) ↦[(rV).view.set]{fullShare} f := by
  rw [show (rV).view.set = Finset.univ from View.set_whole _]

/-- The entries the stream reads name rows of `x`, whatever the list's scratch held before the fetch. -/
theorem offsets_inb (I : Buf (Elt F) (iLoc d)) (hI : ∀ j : S200704.Idx, (I j : BitVec 32).toNat < 100000)
    (fs : Buf (Elt F) ((sV).view.loc (thr d L))) (pay : S128.Idx → Elt F .i32) (hpay : pay = (iBlk L t).view.read (Elt F) I) :
    ∀ x, ((sV).view.read (Elt F) (View.write (Elt F) (sV).view fs pay Finset.univ) x).toNat
      < S100000x128.size (gathers_S100000x128_S128x128).axis := by
  subst hpay; intro x
  rw [View.write_whole_univ]
  simp only [Memref.view_whole, View.read_whole]
  rw [show ∀ j, (iBlk L t).view.read (Elt F) I j = I ((iBlk L t).view.emb j) from fun j => (View.read_apply _ _).trans (cast_eq _ _)]
  exact hI _

/-- What a task holds throughout: its share `q` of `x` and of the list, its two scratch buffers at some contents, its
    three transfer semaphores at zero, what it owes, and `B`, its part of the result. -/
def taskRes (X : Buf (Elt F) (xLoc d)) (I : Buf (Elt F) (iLoc d)) (q : PosShare TreeShare)
    (O : CellTallies nD τ sig (HIx 1)) (W : Waits sig (HIx 1)) (B : sProp 𝕄) : sProp 𝕄 :=
  iprop(Transfers.MayWaits (thr d L) (none : HIx 1) O
    ∗ ((xV).view.loc (thr d L) ↦{q} X) ∗ ((iV).view.loc (thr d L) ↦{q} I)
    ∗ (∃ f, (sV).view.loc (thr d L) ↦{fullShare} f) ∗ (∃ f, (rV).view.loc (thr d L) ↦{fullShare} f)
    ∗ B
    ∗ semVal (thr d L, SemLoc.dma cc0_scratch2.sem) 0 ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

/-- Trip `t`'s block of the result at contents `f`, as the task addresses it. -/
abbrev blkPts (f : Buf (Elt F) (oLoc d)) : sProp 𝕄 :=
  (oBlk L t).view.loc (thr d L) ↦[(oBlk L t).view.set]{fullShare} f

/-- A block written whole with the picked rows holds the picked rows. -/
theorem written_eq (X : Buf (Elt F) (xLoc d)) (I : Buf (Elt F) (iLoc d)) (O0 : Buf (Elt F) (oLoc d)) (pay : S128x128.Idx → Elt F .f32)
    (hpay : ∀ y, pay y = picked (α := Elt F .f32) X I ((oBlk L t).view.emb y)) :
    ∀ j ∈ (oBlk L t).view.set, (oBlk L t).view.writes (Elt F) O0 [⟨Rect.whole S128x128, pay⟩] j = picked (α := Elt F .f32) X I j := by
  intro j hj
  obtain ⟨y, rfl⟩ := View.exists_emb_of_mem_set (oBlk L t).view hj
  refine Eq.trans ?_ (hpay y)
  have e : (oBlk L t).view.emb y = ((oBlk L t).view.slice (Rect.whole S128x128)).emb y :=
    congrArg (oBlk L t).view.emb (Rect.emb_whole_apply S128x128 y).symm
  rw [e]
  exact (View.write_emb_of_mem _ _ (Finset.mem_univ _)).trans (cast_eq _ _)

/-- The rows the stream leaves in the scratch, read back, are the picked rows. -/
theorem streamed_eq (X : Buf (Elt F) (xLoc d)) (I : Buf (Elt F) (iLoc d)) (hI : ∀ j : S200704.Idx, (I j : BitVec 32).toNat < 100000)
    (fs : Buf (Elt F) ((sV).view.loc (thr d L))) (fr : Buf (Elt F) ((rV).view.loc (thr d L)))
    (pay : S128.Idx → Elt F .i32) (hpay : pay = (iBlk L t).view.read (Elt F) I) (hn : S128.numel = S128x128.size (gathers_S100000x128_S128x128).axis')
    (hin : ∀ x, ((sV).view.read (Elt F) (View.write (Elt F) (sV).view fs pay Finset.univ) x).toNat
      < S100000x128.size (gathers_S100000x128_S128x128).axis) (y : S128x128.Idx) :
    (rV).view.read (Elt F) (View.write (Elt F) (rV).view fr
      (SparseCore.gatherPayload gathers_S100000x128_S128x128 ((xAll).view.read (Elt F) X)
        (SparseCore.rows ((sV).view.read (Elt F) (View.write (Elt F) (sV).view fs pay Finset.univ)) hn hin)) Finset.univ) y
      = picked (α := Elt F .f32) X I ((oBlk L t).view.emb y) := by
  subst hpay
  rw [View.read_write_univ]
  refine Eq.trans ?_ (gathered_eq L t X I hI
    (SparseCore.rows ((sV).view.read (Elt F) (View.write (Elt F) (sV).view fs ((iBlk L t).view.read (Elt F) I) Finset.univ)) hn hin)
    (fun k => ?_) y)
  · refine ((View.read_apply _ _).trans (cast_eq _ _)).trans (congrArg X ?_)
    funext a
    refine Fin.ext ?_
    match a with
    | ⟨0, _⟩ => exact (Nat.zero_add _).trans (Nat.one_mul _)
    | ⟨1, _⟩ => exact (Nat.zero_add _).trans (Nat.one_mul _)
  · show BitVec.toNat (View.read (Elt F) sV.view _ _) = _
    rw [View.read_write_univ]
    refine congrArg BitVec.toNat (((View.read_apply _ _).trans (cast_eq _ _)).trans (congrArg I (congrArg (iBlk L t).view.emb ?_)))
    have hk : (S128.rowMajor (ix1 (n := 128) k)) = k.cast hn.symm := Fin.ext (Shape.rowMajor_val_one (d := ![128]) _)
    rw [← hk, Equiv.symm_apply_apply]

set_option maxHeartbeats 4000000 in
/-- One trip: the trip's entries of the list fetched, the rows they name gathered, and its block of the result left at
    the rows picked from `x`; everything else as it was. -/
theorem trip (X : Buf (Elt F) (xLoc d)) (I : Buf (Elt F) (iLoc d)) (O0 : Buf (Elt F) (oLoc d))
    (hI : ∀ j : S200704.Idx, (I j : BitVec 32).toNat < 100000) (q : PosShare TreeShare)
    (O : CellTallies nD τ sig (HIx 1)) (W : Waits sig (HIx 1)) :
    taskRes d L X I q O W (blkPts d L t O0)
      ⊢ wp frame (wpE (defs₀ (F := F)) 𝒱₀ (thr d L) none) Set.univ
          (k0_t1_body L xV (Memref.isWhole_whole _) iV (Memref.isWhole_whole _) oV (Memref.isWhole_whole _)
            sV (Memref.isWhole_whole _) rV (Memref.isWhole_whole _) cc0_scratch2 cc0_scoped0 cc0_scoped1 t ⟨⟩)
          fun _ => taskRes d L X I q O W (blkPts d L t (picked (α := Elt F .f32) X I)) := by
  unfold taskRes
  unfold k0_t1_body
  iintro ⟨#Hmw, Hx, Hi, ⟨%fs, Hs⟩, ⟨%fr, Hr⟩, Ho, HsemG, HsemA, HsemB, %W', %hW', HO⟩
  sl_exec (disch := exact View.amount_pos _ _ (show 0 < S128.numel by decide))
  have hin := offsets_inb d L t I hI fs (trip.sl.dma0 d L t I) rfl
  ihave Hxs := (pointsTo_split_subset (q := q) (f := X) (S := Finset.univ) (Finset.subset_univ (xAll).view.set)).1 $$ Hx
  icases Hxs with ⟨Hxs, Hxr⟩
  ihave Hr' := (Entails.of_eq (pts_rSet d L _)) $$ Hr
  ihave Hs' := (Entails.of_eq (pts_sSet d L _)) $$ Hs
  iapply (SparseCore.wp_indirectGatherLocal countersEmb 𝒱₀ (thr d L) none (hg := gathers_S100000x128_S128x128) (default : HIx 1)
      (rV).view.dmaCredit (SparseCore.sum_rowCredit_eq_dmaCredit rV _ fun _ => rfl) (by decide) hin) $$ [Hxs Hr' Hs' HsemG]
  · isplitl [Hxs]; · iexact Hxs
    isplitl [Hr']; · iexact Hr'
    isplitl [Hs']; · iexact Hs'
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx := (pointsTo_split_subset (q := q) (f := X) (S := Finset.univ) (Finset.subset_univ (xAll).view.set)).2 $$ [Hxs Hxr]
  · isplitl [Hxs] <;> iassumption
  ihave Hr := (Entails.of_eq (pts_rSet d L _).symm) $$ Hr'
  ihave Hs := (Entails.of_eq (pts_sSet d L _).symm) $$ Hs'
  sl_exec (disch := exact View.amount_pos _ _ (show 0 < S128x128.numel by decide))
  sl_step
  ihave Ho := (Entails.of_eq (pointsTo_congr (written_eq d L t X I O0 (trip.sl.dma0_1 d L t X I fs fr hin)
    fun y => streamed_eq d L t X I hI fs fr _ rfl rfl hin y))) $$ Ho
  isplitr; · iexact Hmw
  isplitl [Hx]; · iexact Hx
  isplitl [Hi]; · iexact Hi
  isplitl [Hs]; · iexists _; iexact Hs
  isplitl [Hr]; · iexists _; iexact Hr
  isplitl [Ho]; · iexact Ho
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Trip

end Cert.Proof.KernelIdealRun

end
-- ==== Proof.KernelIdealLaunch.lean ====
/-
  The gather kernel's launch: a vector subcore's whole task by its loop, what the call hands to each of the thirty-two
  tasks and gets back, and the arrays' splitting into the tasks' parts.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Spec

variable {F : FTy → Type}

local notation "𝕄" => MT nD τ sig (HIx 1) (Elt F) ℕ UU ℕ

/-- The loop makes 49 trips. -/
theorem trips_eq : k0_t1_loop.trips = 49 := by decide

/-! ## The task -/

section Tile

variable [FloatOps F] (d : Dev nD) (L : grid0.Coords)

/-- The task's blocks of the result, each at contents `f t`. -/
abbrev blocks (f : Fin k0_t1_loop.trips → Buf (Elt F) (oLoc d)) : sProp 𝕄 :=
  bigSep Finset.univ fun t => oLoc d ↦[oSet L t]{fullShare} f t

/-- Before trip `k` the blocks of the trips before it hold the picked rows, the others what they held at first. -/
abbrev upTo (X : Buf (Elt F) (xLoc d)) (I : Buf (Elt F) (iLoc d)) (O0 : Buf (Elt F) (oLoc d)) (k : ℕ) (t : Fin k0_t1_loop.trips) :
    Buf (Elt F) (oLoc d) :=
  if t.val < k then picked (α := Elt F .f32) X I else O0

/-- The loop's invariant. -/
def inv (X : Buf (Elt F) (xLoc d)) (I : Buf (Elt F) (iLoc d)) (O0 : Buf (Elt F) (oLoc d)) (q : PosShare TreeShare)
    (O : CellTallies nD τ sig (HIx 1)) (W : Waits sig (HIx 1)) (k : Nat) (_ : PUnit) : sProp 𝕄 :=
  taskRes d L X I q O W (blocks d L (upTo d X I O0 k))

/-- Taking one block out of the task's part, and the rest apart from it. -/
theorem taskRes_frame (X : Buf (Elt F) (xLoc d)) (I : Buf (Elt F) (iLoc d)) (q : PosShare TreeShare)
    (O : CellTallies nD τ sig (HIx 1)) (W : Waits sig (HIx 1)) (A B : sProp 𝕄) :
    taskRes d L X I q O W iprop(A ∗ B) ⊣⊢ iprop(taskRes d L X I q O W A ∗ B) := by
  unfold taskRes
  constructor
  · iintro ⟨Hm, Hx, Hi, Hs, Hr, ⟨HA, HB⟩, H1, H2, H3, HO⟩
    isplitr [HB]
    · isplitl [Hm]; · iexact Hm
      isplitl [Hx]; · iexact Hx
      isplitl [Hi]; · iexact Hi
      isplitl [Hs]; · iexact Hs
      isplitl [Hr]; · iexact Hr
      isplitl [HA]; · iexact HA
      isplitl [H1]; · iexact H1
      isplitl [H2]; · iexact H2
      isplitl [H3]; · iexact H3
      iexact HO
    · iexact HB
  · iintro ⟨⟨Hm, Hx, Hi, Hs, Hr, HA, H1, H2, H3, HO⟩, HB⟩
    isplitl [Hm]; · iexact Hm
    isplitl [Hx]; · iexact Hx
    isplitl [Hi]; · iexact Hi
    isplitl [Hs]; · iexact Hs
    isplitl [Hr]; · iexact Hr
    isplitl [HA HB]; · isplitl [HA] <;> iassumption
    isplitl [H1]; · iexact H1
    isplitl [H2]; · iexact H2
    isplitl [H3]; · iexact H3
    iexact HO

/-- The blocks with trip `t`'s apart: before the trip it is at its first contents, after it at the picked rows, and the
    others are the same before and after. -/
theorem blocks_before (X : Buf (Elt F) (xLoc d)) (I : Buf (Elt F) (iLoc d)) (O0 : Buf (Elt F) (oLoc d)) (t : Fin k0_t1_loop.trips) :
    (blocks d L (upTo d X I O0 t.val) : sProp 𝕄) = iprop(blkPts d L t O0
      ∗ bigSep (Finset.univ.erase t) fun u => oLoc d ↦[oSet L u]{fullShare} upTo d X I O0 t.val u) := by
  unfold blocks
  rw [SparseCore.bigSep_erase' (Finset.mem_univ t), show upTo d X I O0 t.val t = O0 from if_neg (lt_irrefl _)]
theorem blocks_after (X : Buf (Elt F) (xLoc d)) (I : Buf (Elt F) (iLoc d)) (O0 : Buf (Elt F) (oLoc d)) (t : Fin k0_t1_loop.trips) :
    (blocks d L (upTo d X I O0 (t.val + 1)) : sProp 𝕄) = iprop(blkPts d L t (picked (α := Elt F .f32) X I)
      ∗ bigSep (Finset.univ.erase t) fun u => oLoc d ↦[oSet L u]{fullShare} upTo d X I O0 t.val u) := by
  unfold blocks
  rw [SparseCore.bigSep_erase' (Finset.mem_univ t), show upTo d X I O0 (t.val + 1) t = picked (α := Elt F .f32) X I from if_pos (Nat.lt_succ_self _)]
  refine congrArg (fun R : sProp 𝕄 => iprop(blkPts d L t (picked (α := Elt F .f32) X I) ∗ R)) (bigSep_congr fun u hu => ?_)
  have hne : u.val ≠ t.val := fun e => Finset.ne_of_mem_erase hu (Fin.ext e)
  rw [show upTo d X I O0 (t.val + 1) u = upTo d X I O0 t.val u from if_congr (by omega) rfl rfl]

/-- The loop: from every block at its first contents to every block at the picked rows. -/
theorem loop (X : Buf (Elt F) (xLoc d)) (I : Buf (Elt F) (iLoc d)) (O0 : Buf (Elt F) (oLoc d))
    (hI : ∀ j : S200704.Idx, (I j : BitVec 32).toNat < 100000) (q : PosShare TreeShare)
    (O : CellTallies nD τ sig (HIx 1)) (W : Waits sig (HIx 1)) :
    taskRes d L X I q O W (blocks d L fun _ => O0)
      ⊢ wp frame (wpE (defs₀ (F := F)) 𝒱₀ (thr d L) none) Set.univ
          (cc0__gather_body L xV (Memref.isWhole_whole _) iV (Memref.isWhole_whole _) oV (Memref.isWhole_whole _)
            sV (Memref.isWhole_whole _) rV (Memref.isWhole_whole _) cc0_scratch2 cc0_scoped0 cc0_scoped1)
          fun _ => taskRes d L X I q O W (blocks d L fun _ => picked (α := Elt F .f32) X I) := by
  simp only [cc0__gather_body_eq_skeleton]; unfold cc0__gather_body_skel
  iintro H
  sl_for (inv d L X I O0 q O W) $$ [H]
  case region =>
    intro t _
    unfold inv
    rw [blocks_before, blocks_after]
    exact ((taskRes_frame d L X I q O W _ _).1.trans (sep_mono_left (trip d L t X I O0 hI q O W))).trans
      ((wp_frame_r frame _ _).trans (wp_mono frame _ _ fun _ => (taskRes_frame d L X I q O W _ _).2))
  · unfold inv
    rw [show (upTo d X I O0 0) = fun _ => O0 from funext fun t => if_neg (Nat.not_lt_zero _)]
    iexact H
  iintro %_ HI
  unfold inv
  sl_step
  rw [show (upTo d X I O0 k0_t1_loop.trips) = fun _ => picked (α := Elt F .f32) X I from funext fun t => if_pos t.isLt]
  iexact HI

/-! ## The task's own semaphores and buffers -/

/-- The three transfer semaphores' cells. -/
abbrev gCell : GSem nD τ sig := (thr d L, .dma cc0_scratch2.sem)
abbrev aCell : GSem nD τ sig := (thr d L, .dma cc0_scoped0.sem)
abbrev bCell : GSem nD τ sig := (thr d L, .dma cc0_scoped1.sem)

/-- The cells of the task's own semaphores but the three. -/
abbrev restCells : Finset (GSem nD τ sig) := (((ownCells (thr d L)).erase (gCell d L)).erase (aCell d L)).erase (bCell d L)

/-- The task's own semaphores at zero are its three transfer semaphores at zero and the rest. -/
theorem ownSems0_V :
    (ownSems0 (thr d L) : sProp 𝕄)
      = iprop(semVal (gCell d L) 0 ∗ semVal (aCell d L) 0 ∗ semVal (bCell d L) 0 ∗ bigSep (restCells d L) fun g => semVal g 0) := by
  have hg : gCell d L ∈ ownCells (thr d L) := mem_ownCells.mpr ⟨rfl, by
    show (SemLoc.dma cc0_scratch2.sem : SemLoc sig).isScoped .scVector = true; decide⟩
  have ha : aCell d L ∈ ownCells (thr d L) := mem_ownCells.mpr ⟨rfl, by
    show (SemLoc.dma cc0_scoped0.sem : SemLoc sig).isScoped .scVector = true; decide⟩
  have hb : bCell d L ∈ ownCells (thr d L) := mem_ownCells.mpr ⟨rfl, by
    show (SemLoc.dma cc0_scoped1.sem : SemLoc sig).isScoped .scVector = true; decide⟩
  have hag : aCell d L ≠ gCell d L := by simp [aCell, gCell]; decide
  have hbg : bCell d L ≠ gCell d L := by simp [bCell, gCell]; decide
  have hba : bCell d L ≠ aCell d L := by simp [bCell, aCell]; decide
  unfold SparseCore.Cfg.ownSems0
  rw [SparseCore.bigSep_erase' hg, SparseCore.bigSep_erase' (Finset.mem_erase.mpr ⟨hag, ha⟩),
    SparseCore.bigSep_erase' (Finset.mem_erase.mpr ⟨hba, Finset.mem_erase.mpr ⟨hbg, hb⟩⟩)]

/-- The task's own buffers but the two scratch buffers. -/
abbrev restRefs : Finset (DevRef τ sig) :=
  ((ownRefs (τ := τ) (.scVector (cV L) (jV L))).erase ((Proc.scVector (cV L) (jV L)).devRef cc0_scratch0)).erase
    ((Proc.scVector (cV L) (jV L)).devRef cc0_scratch1)

/-- The task's own buffers are its two scratch buffers, at some contents, and the rest. -/
theorem ownBufs_V :
    (ownBufs (thr d L) : sProp 𝕄)
      = iprop((∃ f, (sV).view.loc (thr d L) ↦{fullShare} f) ∗ (∃ f, (rV).view.loc (thr d L) ↦{fullShare} f)
          ∗ bigSep (restRefs L) fun b => iprop(∃ f, ((d, b) : Loc nD τ sig) ↦{fullShare} f)) := by
  have h0 := SparseCore.Cfg.mem_ownRefs_of_owner (p := Proc.scVector (cV L) (jV L)) (b := (Proc.scVector (cV L) (jV L)).devRef cc0_scratch0) rfl
  have h1 := SparseCore.Cfg.mem_ownRefs_of_owner (p := Proc.scVector (cV L) (jV L)) (b := (Proc.scVector (cV L) (jV L)).devRef cc0_scratch1) rfl
  have hne : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  unfold SparseCore.Cfg.ownBufs
  refine (SparseCore.bigSep_erase' h0).trans ?_
  rw [SparseCore.bigSep_erase' (Finset.mem_erase.mpr ⟨hne, h1⟩)]

/-- What a task is handed and hands back: its share of `x` and of the list, and its blocks of the result. -/
abbrev taskPts (X : Buf (Elt F) (xLoc d)) (I : Buf (Elt F) (iLoc d)) (q : PosShare TreeShare) (f : Buf (Elt F) (oLoc d)) : sProp 𝕄 :=
  iprop((xLoc d ↦{q} X) ∗ (iLoc d ↦{q} I) ∗ blocks d L fun _ => f)

/-- The task at grid point `L`, as the launch theorem asks of it: its blocks of the result come back at the picked rows. -/
theorem tile_body (hF : (K (F := F)).Facts) (X : Buf (Elt F) (xLoc d)) (I : Buf (Elt F) (iLoc d)) (O0 : Buf (Elt F) (oLoc d))
    (hI : ∀ j : S200704.Idx, (I j : BitVec 32).toNat < 100000) (q : PosShare TreeShare)
    (O : CellTallies nD τ sig (HIx 1)) (W : Waits sig (HIx 1)) (hO : ∀ g, O g none = 0) :
    iprop(levAts (K (F := F)).L (K (F := F)).lev ∗ emp ∗ taskPts d L X I q O0
        ∗ scopedBufs (thr d L) ∗ scopedSems0 (thr d L) ∗ owes (thr d L) O W)
      ⊢ wp frame (wpE (defs₀ (F := F)) 𝒱₀ (thr d L) none) Set.univ
          (cc0__gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(taskPts d L X I q (picked (α := Elt F .f32) X I)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  have hpre : iprop(levAts (K (F := F)).L (K (F := F)).lev ∗ emp ∗ taskPts d L X I q O0
        ∗ ((∃ f, (sV).view.loc (thr d L) ↦{fullShare} f) ∗ (∃ f, (rV).view.loc (thr d L) ↦{fullShare} f)
          ∗ bigSep (restRefs L) fun b => iprop(∃ f, ((d, b) : Loc nD τ sig) ↦{fullShare} f))
        ∗ (semVal (gCell d L) 0 ∗ semVal (aCell d L) 0 ∗ semVal (bCell d L) 0 ∗ bigSep (restCells d L) fun g => semVal g 0)
        ∗ owes (thr d L) O W)
      ⊢ (iprop(taskRes d L X I q O W (blocks d L fun _ => O0)
          ∗ (bigSep (restRefs L) fun b => iprop(∃ f, ((d, b) : Loc nD τ sig) ↦{fullShare} f)) ∗ bigSep (restCells d L) fun g => semVal g 0) : sProp 𝕄) := by
    unfold taskRes
    iintro ⟨#Hlv, -, ⟨Hx, Hi, Ho⟩, ⟨Hs, Hr, Hbufs⟩, ⟨HG, HA, HB, Hsems⟩, HO⟩
    ihave Hmw := (show levAts (K (F := F)).L (K (F := F)).lev ⊢ Transfers.MayWaits (thr d L) (none : HIx 1) O from
      (K (F := F)).mayWaits_none (thr := thr d L) hO) $$ Hlv
    isplitr [Hbufs Hsems]
    · isplitl [Hmw]; · iexact Hmw
      isplitl [Hx]; · iexact Hx
      isplitl [Hi]; · iexact Hi
      isplitl [Hs]; · iexact Hs
      isplitl [Hr]; · iexact Hr
      isplitl [Ho]; · iexact Ho
      isplitl [HG]; · iexact HG
      isplitl [HA]; · iexact HA
      isplitl [HB]; · iexact HB
      iexists W; isplitr
      · ipureintro; exact fun p hp => .inl hp
      · iexact HO
    · isplitl [Hbufs] <;> iassumption
  refine (hpre.trans (sep_mono_left (loop d L X I O0 hI q O W))).trans ((wp_frame_r frame _ _).trans (wp_mono frame _ _ fun _ => ?_))
  unfold taskRes
  iintro ⟨⟨-, Hx, Hi, Hs, Hr, Ho, HG, HA, HB, HO⟩, Hbufs, Hsems⟩
  isplitl [Hx Hi Ho]
  · isplitl [Hx]; · iexact Hx
    isplitl [Hi]; · iexact Hi
    iexact Ho
  isplitl [Hs Hr Hbufs]
  · isplitl [Hs]; · iexact Hs
    isplitl [Hr]; · iexact Hr
    iexact Hbufs
  isplitl [HG HA HB Hsems]
  · isplitl [HG]; · iexact HG
    isplitl [HA]; · iexact HA
    isplitl [HB]; · iexact HB
    iexact Hsems
  iexact HO

end Tile

/-! ## The tasks' parts of the arrays -/

/-- Grid point `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- The grid's extents, as the arrays' splitting counts them. -/
theorem bound_zero : 2 = grid0.bound 0 := rfl
theorem bound_one : 16 = grid0.bound 1 := rfl

/-- The grid point of SparseCore `c`'s subcore `i`. -/
abbrev pt (c : Fin 2) (i : Fin 16) : grid0.Coords := coordsV (Fin.cast bound_zero c) (Fin.cast bound_one i)

theorem row0_pt (c : Fin 2) (i : Fin 16) (t : Fin k0_t1_loop.trips) : row0 (pt c i) t = 12544 * i.val + 6272 * c.val + 128 * t.val := rfl

/-- The share of `x` and of the list that subcore `i` of SparseCore `c` reads at: the full share halved for the two
    SparseCores, each half halved four times for the sixteen subcores. -/
abbrev qOf (c : Fin 2) (i : Fin 16) : PosShare TreeShare := leaf 4 (leaf 1 fullShare c) i

section Split

variable (d : Dev nD)

/-- The blocks of all the trips of all the tasks. -/
abbrev blkOf (p : (Fin 2 × Fin 16) × Fin k0_t1_loop.trips) : Finset S200704x128.Idx := oSet (pt p.1.1 p.1.2) p.2

/-- No two of them meet, -/
theorem blk_disjoint : ∀ p ∈ (Finset.univ : Finset ((Fin 2 × Fin 16) × Fin k0_t1_loop.trips)), ∀ p' ∈ Finset.univ, p ≠ p' → Disjoint (blkOf p) (blkOf p') := by
  rintro ⟨⟨c, i⟩, t⟩ - ⟨⟨c', i'⟩, t'⟩ - hne
  refine Finset.disjoint_left.mpr fun j hj hj' => hne ?_
  have h := (mem_oSet _ _ _).mp hj
  have h' := (mem_oSet _ _ _).mp hj'
  have ht : t.val < 49 := lt_of_lt_of_eq t.isLt trips_eq
  have ht' : t'.val < 49 := lt_of_lt_of_eq t'.isLt trips_eq
  rw [row0_pt] at h h'
  dsimp only at h h'
  have e1 : i.val = i'.val := by omega
  have e2 : c.val = c'.val := by omega
  have e3 : t.val = t'.val := by omega
  rw [Fin.ext e1, Fin.ext e2, Fin.ext e3]

/-- and together they are the whole array. -/
theorem blk_cover : (Finset.univ : Finset ((Fin 2 × Fin 16) × Fin k0_t1_loop.trips)).biUnion blkOf = Finset.univ := by
  ext j
  simp only [Finset.mem_biUnion, Finset.mem_univ, true_and, iff_true]
  have hj : (j 0).val < 200704 := ValueIdx.idx2_lt0 (n0 := 200704) (n1 := 128) j
  refine ⟨((⟨(j 0).val % 12544 / 6272, by omega⟩, ⟨(j 0).val / 12544, by omega⟩), ⟨(j 0).val % 6272 / 128, by rw [trips_eq]; omega⟩), ?_⟩
  refine (mem_oSet _ _ _).mpr ?_
  rw [row0_pt]
  dsimp only
  omega

/-- The result's array is all the tasks' blocks of it. -/
theorem out_split (f : Buf (Elt F) (oLoc d)) :
    (oLoc d ↦{fullShare} f : sProp 𝕄) = bigSep Finset.univ fun c : Fin 2 => bigSep Finset.univ fun i : Fin 16 => blocks d (pt c i) fun _ => f := by
  have e : (_ : sProp 𝕄) = _ := pointsTo_biUnion (ℓ := oLoc d) (q := fullShare) (f := f) (Finset.univ : Finset ((Fin 2 × Fin 16) × Fin k0_t1_loop.trips)) blkOf blk_disjoint
  rw [blk_cover] at e
  refine e.trans ?_
  rw [← Finset.univ_product_univ, SparseCore.bigSep_product, ← Finset.univ_product_univ, SparseCore.bigSep_product]

/-- An array every task reads is all the tasks' shares of it. -/
theorem share_split (ℓ : Loc nD τ sig) (f : Buf (Elt F) ℓ) :
    (ℓ ↦{fullShare} f : sProp 𝕄) = bigSep Finset.univ fun c : Fin 2 => bigSep Finset.univ fun i : Fin 16 => ℓ ↦{qOf c i} f := by
  refine (pointsTo_leaves Finset.univ f 1 fullShare).trans ?_
  exact bigSep_congr fun c _ => pointsTo_leaves Finset.univ f 4 _

/-- The three arrays are what the thirty-two tasks are handed together. -/
theorem tasks_split (X : Buf (Elt F) (xLoc d)) (I : Buf (Elt F) (iLoc d)) (f : Buf (Elt F) (oLoc d)) :
    (iprop((xLoc d ↦{fullShare} X) ∗ (iLoc d ↦{fullShare} I) ∗ oLoc d ↦{fullShare} f) : sProp 𝕄)
      = bigSep Finset.univ fun c : Fin 2 => bigSep Finset.univ fun i : Fin 16 => taskPts d (pt c i) X I (qOf c i) f := by
  rw [share_split (xLoc d), share_split (iLoc d), out_split, ← bigSep_sep', ← bigSep_sep']
  refine bigSep_congr fun c _ => ?_
  rw [← bigSep_sep', ← bigSep_sep']

end Split

end Cert.Proof.KernelIdealRun

end
-- ==== Proof.KernelIdealMain.lean ====
/-
  The gather program's run: the host operations that make the padded index list, the call on the thirty-two vector
  subcores, and the slice of its result.
-/
module

public import proofs.«01_k».proof.Proof.KernelIdealLaunch

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Cert.Proof.Spec

variable {F : FTy → Type}

local notation "𝕄" => MT nD τ sig (HIx 1) (Elt F) ℕ UU ℕ

variable [FloatOps F]

/-! ## The host operations -/

/-- The list's first column, as a vector, with 704 zeros after it: what the kernel is called with. -/
def idxList (a : S200000x16.Idx → BitVec 32) : S200704.Idx → BitVec 32 :=
  pad S200704 ![0] ![704] ![0]
    (shapeCast S200000 (extractStridedSlice S200000x1 ![0, 0] a slices_S200000x16_S200000x1_0_0) shapeCasts_S200000x1_S200000)
    (constantI S_ 32 0#32) pads_S200000_S200704_07040 h_S_

/-- The five operations before the call and the one after it. -/
abbrev op1 : HloOp τ sig (Elt F) := StableHlo.unary main_arg1 main_v0 ((extractStridedSlice S200000x1 ![0, 0] · slices_S200000x16_S200000x1_0_0) : (⟨S200000x16, .i32⟩ : BufTy).Contents (Elt F) → (⟨S200000x1, .i32⟩ : BufTy).Contents (Elt F))
abbrev op2 : HloOp τ sig (Elt F) := StableHlo.reshape main_v0 main_v1 (rfl : (.i32 : EltTy) = .i32) shapeCasts_S200000x1_S200000
abbrev op3 : HloOp τ sig (Elt F) := StableHlo.nullary main_c (constantI S_ 32 0#32)
abbrev op4 : HloOp τ sig (Elt F) := StableHlo.unary main_c main_call0_v0 id
abbrev op5 : HloOp τ sig (Elt F) := StableHlo.binary main_v1 main_call0_v0 main_v2 (fun x v => pad S200704 ![0] ![704] ![0] x v pads_S200000_S200704_07040 h_S_)
abbrev op6 : HloOp τ sig (Elt F) := StableHlo.unary main_v3 main_v4 ((extractStridedSlice S200000x128 ![0, 0] · slices_S200704x128_S200000x128_0_0) : (⟨S200704x128, .f32⟩ : BufTy).Contents (Elt F) → (⟨S200000x128, .f32⟩ : BufTy).Contents (Elt F))

/-- The arrays' names on a device. -/
abbrev rf (b : Ref sig .tc) : DevRef τ sig := Proc.devRef .tc b

/-- The valuation the call finds: the five operations' results on top of `V`. -/
def before (V : Valuation τ sig (Elt F)) : Valuation τ sig (Elt F) :=
  StableHlo.after [op1 (F := F), op2, op3, op4, op5] V

theorem before_arg0 (V : Valuation τ sig (Elt F)) : before V (rf main_arg0) = V (rf main_arg0) := by
  unfold before; after_results
theorem before_arg1 (V : Valuation τ sig (Elt F)) : before V (rf main_arg1) = V (rf main_arg1) := by
  unfold before; after_results
theorem before_v3 (V : Valuation τ sig (Elt F)) : before V (rf main_v3) = V (rf main_v3) := by
  unfold before; after_results
theorem before_v2 (V : Valuation τ sig (Elt F)) : before V (rf main_v2) = idxList (V (rf main_arg1)) := by
  unfold before; after_results
  rfl

/-! ## What the handshakes carry -/

variable (m : (ℓ : Loc nD τ sig) → Buf (Elt F) ℓ) (ρ : Dev nD → PrngReg)

/-- `x` and the list's source as the program finds them, the padded list, and the result the call leaves. -/
abbrev xC (d : Dev nD) : Buf (Elt F) (xLoc d) := m (xLoc d)
abbrev aC (d : Dev nD) : Buf (Elt F) ((SparseCore.T d : Thread nD τ).loc main_arg1) := m ((SparseCore.T d).loc main_arg1)
abbrev iC (d : Dev nD) : Buf (Elt F) (iLoc d) := idxList (aC m d)
abbrev oC (d : Dev nD) : Buf (Elt F) (oLoc d) := picked (α := Elt F .f32) (xC m d) (iC m d)

/-- What the proof asks of the launch memory: every entry of the padded list names a row of `x`. -/
def PreOK : Prop := ∀ (d : Dev nD) (j : S200704.Idx), (idxList (aC m d) j).toNat < 100000

/-- The call's cores and subcores, as the grid counts them. -/
theorem nCore_zero : (K (F := F)).nCore 0 = 2 := rfl
theorem nSub_zero : (K (F := F)).nSub 0 = 16 := rfl

/-- What subcore `i` of SparseCore `c` holds of the arrays, the result's blocks at `f`. -/
abbrev part (d : Dev nD) (c : Fin ((K (F := F)).nCore 0)) (i : Fin ((K (F := F)).nSub 0)) (f : Buf (Elt F) (oLoc d)) : sProp 𝕄 :=
  taskPts d (pt (Fin.cast nCore_zero c) (Fin.cast nSub_zero i)) (xC m d) (iC m d) (qOf (Fin.cast nCore_zero c) (Fin.cast nSub_zero i)) f

/-- Each SparseCore takes what its sixteen tasks take, and gives back what they give back: the result's blocks from their
    first contents to the picked rows. -/
def P : (K (F := F)).Pay (nD := nD) (Val := Elt F) (Name := ℕ) (U := UU) where
  st := fun q d c => match q with | 0 => bigSep Finset.univ fun i => part m d c i (m (oLoc d))
  dn := fun q d c => match q with | 0 => bigSep Finset.univ fun i => part m d c i (oC m d)
  go := fun q d c i => match q with | 0 => part m d c i (m (oLoc d))
  td := fun q d c i => match q with | 0 => part m d c i (oC m d)
  x := fun _ _ => iprop(emp)

instance P_storable : (P (F := F) m).IsStorable where
  st q d c := match q with
    | 0 => (inferInstance : BI.Storable (upEmb : UEmb _ 𝕄) (bigSep Finset.univ fun i => part m d c i (m (oLoc d))))
  dn q d c := match q with
    | 0 => (inferInstance : BI.Storable (upEmb : UEmb _ 𝕄) (bigSep Finset.univ fun i => part m d c i (oC m d)))
  go q d c i := match q with
    | 0 => (inferInstance : BI.Storable (upEmb : UEmb _ 𝕄) (part m d c i (m (oLoc d))))
  td q d c i := match q with
    | 0 => (inferInstance : BI.Storable (upEmb : UEmb _ 𝕄) (part m d c i (oC m d)))

/-! ## The obligations -/

theorem defs₀_vector (c : Fin τ.nSC) (s : Fin τ.nSub) :
    defs₀ (F := F) (.scVector c s) 0 ()
      = SparseCore.onTile hcore0 hsub0 (fun c s => cc0__gather_body (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- The waits a task may have recorded, as the launch theorem lists them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task's obligation: `tile_body` at its grid point. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (xC m d) (iC m d) (m (oLoc d)) (hpre d) _ O W hO).trans
    (wp_mono frame _ _ fun _ => obl_post)

/-- What is handed on whole and taken back whole. -/
theorem both_ways (A B : sProp 𝕄) : A ⊢ |={Set.univ}=> iprop(A ∗ (B -∗ B)) := by
  iintro H; imodintro
  isplitl [H]; · iexact H
  iintro H; iexact H

/-- A SparseCore's part is its tasks' parts, both ways. -/
theorem vecSplit : (K (F := F)).VecSplit' (P m) 0 := by
  intro d c
  simp only [P]
  exact both_ways _ _

/-- Counting the call's cores, or its subcores, by the grid's extents. -/
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem over_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- All the tasks' parts together are the three arrays. -/
theorem parts_eq (d : Dev nD) (f : Buf (Elt F) (oLoc d)) :
    (bigSep Finset.univ fun c : Fin ((K (F := F)).nCore 0) => bigSep Finset.univ fun i : Fin ((K (F := F)).nSub 0) => part m d c i f)
      = (iprop((xLoc d ↦{fullShare} xC m d) ∗ (iLoc d ↦{fullShare} iC m d) ∗ oLoc d ↦{fullShare} f) : sProp 𝕄) := by
  have h (c : Fin ((K (F := F)).nCore 0)) : (bigSep Finset.univ fun i : Fin ((K (F := F)).nSub 0) => part m d c i f)
      = bigSep Finset.univ fun i : Fin 16 => taskPts d (pt (Fin.cast nCore_zero c) i) (xC m d) (iC m d) (qOf (Fin.cast nCore_zero c) i) f :=
    over_subs fun i => taskPts d (pt (Fin.cast nCore_zero c) i) (xC m d) (iC m d) (qOf (Fin.cast nCore_zero c) i) f
  exact ((bigSep_congr fun c _ => h c).trans
    (over_cores fun c => bigSep Finset.univ fun i : Fin 16 => taskPts d (pt c i) (xC m d) (iC m d) (qOf c i) f)).trans
    (tasks_split d (xC m d) (iC m d) f).symm

/-- What the call takes altogether, and what it hands back. -/
theorem st0_eq (d : Dev nD) : (bigSep Finset.univ fun c : Fin ((K (F := F)).nCore 0) => (P m).st 0 d c)
    = (iprop((xLoc d ↦{fullShare} xC m d) ∗ (iLoc d ↦{fullShare} iC m d) ∗ oLoc d ↦{fullShare} m (oLoc d)) : sProp 𝕄) := by
  rw [← parts_eq]; rfl
theorem dn0_eq (d : Dev nD) : (bigSep Finset.univ fun c : Fin ((K (F := F)).nCore 0) => (P m).dn 0 d c)
    = (iprop((xLoc d ↦{fullShare} xC m d) ∗ (iLoc d ↦{fullShare} iC m d) ∗ oLoc d ↦{fullShare} oC m d) : sProp 𝕄) := by
  rw [← parts_eq]; rfl

/-! ## The launch element of the certificate's ghost state -/

/-- The handshakes' rounds, and no transfer counted yet. -/
def u₀ : UU := (initOf (K (F := F)).hsCells (K (F := F)).hsToks, 1)

omit [FloatOps F] in
/-- Nothing, once for every index, is nothing. -/
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

/-- The program's nine arrays. -/
abbrev S9 : Finset (DevRef τ sig) := {rf main_arg0, rf main_arg1, rf main_v0, rf main_v1, rf main_c, rf main_call0_v0, rf main_v2, rf main_v3, rf main_v4}

/-- The launch valuation, and the one after the call. -/
def V0 (d : Dev nD) : Valuation τ sig (Elt F) := fun b => m (d, b)
def V1 (d : Dev nD) : Valuation τ sig (Elt F) := Function.update (before (V0 m d)) (rf main_v3) (oC m d)

theorem unscoped_held (d : Dev nD) : (unscopedBufs d (fun b => m ((SparseCore.T d).loc b)) : sProp 𝕄) = held (T d) S9 (V0 m d) := by
  unfold unscopedBufs held
  rw [show (Finset.univ.filter fun b : Ref sig .tc => ¬ b.isScoped)
      = {main_arg0, main_arg1, main_v0, main_v1, main_c, main_call0_v0, main_v2, main_v3, main_v4} by decide]
  unfold S9
  iterate 8 rw [SparseCore.bigSep_insert' (by decide)]
  iterate 8 rw [SparseCore.bigSep_insert' (by decide)]
  rw [bigSep_singleton, bigSep_singleton]
  rfl

/-- The arrays with the call's three apart. -/
theorem held_call (d : Dev nD) (V : Valuation τ sig (Elt F)) :
    (held (T d) S9 V : sProp 𝕄) = iprop(((xLoc d ↦{fullShare} V (rf main_arg0)) ∗ (iLoc d ↦{fullShare} V (rf main_v2)) ∗ oLoc d ↦{fullShare} V (rf main_v3))
      ∗ held (T d) (S9 \ {rf main_arg0, rf main_v2, rf main_v3}) V) := by
  unfold held
  rw [SparseCore.bigSep_sdiff_split' (show ({rf main_arg0, rf main_v2, rf main_v3} : Finset (DevRef τ sig)) ⊆ S9 by decide)]
  rw [SparseCore.bigSep_insert' (by decide), SparseCore.bigSep_insert' (by decide), bigSep_singleton]
/-- The arrays with the program's arguments and result apart. -/
theorem held_end (d : Dev nD) (V : Valuation τ sig (Elt F)) :
    (held (T d) S9 V : sProp 𝕄) = iprop(((xLoc d ↦{fullShare} V (rf main_arg0)) ∗ ((SparseCore.T d).loc main_arg1 ↦{fullShare} V (rf main_arg1))
        ∗ (SparseCore.T d).loc main_v4 ↦{fullShare} V (rf main_v4))
      ∗ held (T d) (S9 \ {rf main_arg0, rf main_arg1, rf main_v4}) V) := by
  unfold held
  rw [SparseCore.bigSep_sdiff_split' (show ({rf main_arg0, rf main_arg1, rf main_v4} : Finset (DevRef τ sig)) ⊆ S9 by decide)]
  rw [SparseCore.bigSep_insert' (by decide), SparseCore.bigSep_insert' (by decide), bigSep_singleton]

/-- The call changes its result's array alone. -/
theorem V1_rest (d : Dev nD) : (held (T d) (S9 \ {rf main_arg0, rf main_v2, rf main_v3}) (before (V0 m d)) : sProp 𝕄)
    = held (T d) (S9 \ {rf main_arg0, rf main_v2, rf main_v3}) (V1 m d) := by
  unfold held V1
  refine bigSep_congr fun b hb => ?_
  have hne : b ≠ rf main_v3 := fun e => absurd (e ▸ hb) (show rf main_v3 ∉ S9 \ {rf main_arg0, rf main_v2, rf main_v3} by decide)
  rw [Function.update_of_ne hne]

theorem V1_arg0 (d : Dev nD) : V1 m d (rf main_arg0) = xC m d :=
  (Function.update_of_ne (show rf main_arg0 ≠ rf main_v3 by decide) _ _).trans (before_arg0 _)
theorem V1_arg1 (d : Dev nD) : V1 m d (rf main_arg1) = aC m d :=
  (Function.update_of_ne (show rf main_arg1 ≠ rf main_v3 by decide) _ _).trans (before_arg1 _)
theorem V1_v2 (d : Dev nD) : V1 m d (rf main_v2) = iC m d :=
  (Function.update_of_ne (show rf main_v2 ≠ rf main_v3 by decide) _ _).trans (before_v2 _)
theorem V1_v3 (d : Dev nD) : V1 m d (rf main_v3) = oC m d := Function.update_self _ _ _

/-- The program's result: the first 200000 rows of what the call leaves. -/
abbrev res (d : Dev nD) : Buf (Elt F) ((SparseCore.T d : Thread nD τ).loc main_v4) :=
  extractStridedSlice S200000x128 ![0, 0] (oC m d) slices_S200704x128_S200000x128_0_0

theorem end_arg0 (d : Dev nD) : (op6 (F := F)).result (V1 m d) (rf main_arg0) = xC m d :=
  ((op6 (F := F)).result_of_not_mem _ (show _ ∉ ({rf main_v4} : Finset (DevRef τ sig)) by decide)).trans (V1_arg0 m d)
theorem end_arg1 (d : Dev nD) : (op6 (F := F)).result (V1 m d) (rf main_arg1) = aC m d :=
  ((op6 (F := F)).result_of_not_mem _ (show _ ∉ ({rf main_v4} : Finset (DevRef τ sig)) by decide)).trans (V1_arg1 m d)
theorem end_v4 (d : Dev nD) : (op6 (F := F)).result (V1 m d) (rf main_v4) = res m d := by
  refine (StableHlo.unary_result _ _ _ _ _ _).trans ?_
  rw [V1_v3]

/-- What @main leaves the claim: the arguments unchanged and the result at the picked rows. -/
abbrev FIN (d : Dev nD) : sProp 𝕄 :=
  iprop((xLoc d ↦{fullShare} xC m d) ∗ ((SparseCore.T d).loc main_arg1 ↦{fullShare} aC m d) ∗ (SparseCore.T d).loc main_v4 ↦{fullShare} res m d)

set_option maxRecDepth 4096 in
/-- @main on device `d`'s TensorCore: the five operations, the call, the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op1) (S := S9) (show ({rf main_arg1, rf main_v0} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op2) (S := S9) (show ({rf main_v0, rf main_v1} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op3) (S := S9) (show ({rf main_c} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op4) (S := S9) (show ({rf main_c, rf main_call0_v0} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op5) (S := S9) (show ({rf main_v1, rf main_call0_v0, rf main_v2} : Finset (DevRef τ sig)) ⊆ S9 by decide)) $$ [Hb Hheld]
  · isplitl [Hb] <;> iassumption
  iintro ⟨Hb, Hheld⟩
  rw [wp_ret]; imodintro; imodintro
  ihave Hh := (Entails.of_eq (show (held (T d) S9 ((op5 (F := F)).result ((op4 (F := F)).result ((op3 (F := F)).result ((op2 (F := F)).result ((op1 (F := F)).result (V0 m d)))))) : sProp 𝕄)
    = held (T d) S9 (before (V0 m d)) from rfl)) $$ Hheld
  ihave Hh' := (Entails.of_eq (held_call d (before (V0 m d)))) $$ Hh
  rw [before_arg0, before_v2, before_v3, V1_rest]
  icases Hh' with ⟨Hcall, Hrest⟩
  iapply ((K (F := F)).wp_run (D (F := F)) 𝒱 (EH := EH) (P := P m) κ d 0) $$ [Hst Hcall Hrest Hb Hts]
  isplitr; · iexact Hctx
  isplitl [Hst]; · iexact Hst
  isplitl [Hcall]
  · rw [st0_eq]; iexact Hcall
  iintro ⟨Hst, Hdn⟩
  ihave Hdn' := (Entails.of_eq (dn0_eq m d)) $$ Hdn
  ihave Hheld := (Entails.of_eq (held_call d (V1 m d)).symm) $$ [Hdn' Hrest]
  · rw [V1_arg0, V1_v2, V1_v3]
    isplitl [Hdn'] <;> iassumption
  iapply (wp_hlo_within 𝒱 (SparseCore.T d) none Set.univ (op := op6) (S := S9) (show ({rf main_v3, rf main_v4} : Finset (DevRef τ sig)) ⊆ S9 by decide)) $$ [Hb Hheld]
  · isplitl [Hb] <;> iassumption
  iintro ⟨Hb, Hheld⟩
  ihave Hh := (Entails.of_eq (held_end d ((op6 (F := F)).result (V1 m d)))) $$ Hheld
  rw [end_arg0, end_arg1, end_v4]
  icases Hh with ⟨Hfin, -⟩
  rw [wp_ret]; imodintro; imodintro
  isplitl [Hst]; · iexact Hst
  isplitl [Hfin]; · iexact Hfin
  isplitl [Hb] <;> iassumption

/-! ## The program's run -/

/-- What the end state says on device `d`: the arguments as they were, the result at the picked rows. -/
def fq (d : Dev nD) (s' : Phys nD τ sig (Elt F)) : Prop :=
  s'.mem.mem (xLoc d) = xC m d ∧ s'.mem.mem ((SparseCore.T d).loc main_arg1) = aC m d ∧ s'.mem.mem ((SparseCore.T d).loc main_v4) = res m d

set_option maxRecDepth 16384 in
theorem hfin (d : Dev nD) (s' : Phys nD τ sig (Elt F)) : iprop(FIN m d ∗ SI s') ⊢ (⌜fq m d s'⌝ : sProp 𝕄) := by
  iintro ⟨⟨Hx, Ha, Hr⟩, HSI⟩
  ihave H := (persistent_entails_right (SI_pointsTo_agree (st := s') (ℓ := xLoc d) (I := Finset.univ) (q := fullShare) (f := xC m d))) $$ [HSI Hx]
  · isplitl [HSI] <;> iassumption
  icases H with ⟨%h1, HSI, -⟩
  ihave H := (persistent_entails_right (SI_pointsTo_agree (st := s') (ℓ := (SparseCore.T d).loc main_arg1) (I := Finset.univ) (q := fullShare) (f := aC m d))) $$ [HSI Ha]
  · isplitl [HSI] <;> iassumption
  icases H with ⟨%h2, HSI, -⟩
  ihave H := (SI_pointsTo_agree (st := s') (ℓ := (SparseCore.T d).loc main_v4) (I := Finset.univ) (q := fullShare) (f := res m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The run's end: on every device the arguments as they were and the result at the picked rows, every semaphore at zero. -/
def QC : PUnit × MemSt nD τ sig (Elt F) → Prop := fun r =>
  (∀ d : Dev nD, r.2.mem (xLoc d) = xC m d ∧ r.2.mem ((SparseCore.T d).loc main_arg1) = aC m d
    ∧ r.2.mem ((SparseCore.T d).loc main_v4) = res m d) ∧ r.2.sem = fun _ => 0

/-- Every run of the program ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdealRun

end
-- ==== Proof.Reference.lean ====
/-
  The reference's result, read at an index: under the condition on the index list it is `taken`. The reference appends a
  row of zeros to `x`, shifts negative indices, reads the rows with a clamp and masks the rows whose index is out of
  range; an index in range is not negative, needs no clamp, is not masked and never names the appended row.
-/
module

public import proofs.«01_k».proof.Proof.Taken
public import proofs.«01_k».proof.Proof.Gen.ReferenceIdeal.Run

@[expose] public section

noncomputable section

namespace Cert.Proof.Ref

open Cert.ReferenceIdeal Cert.ReferenceIdeal.Gen
open Idealize.ShloMosaic Idealize.ShloMosaic.ValueIdx Idealize.SL.Sem
open Cert.Proof.Spec

variable {F : FTy → Type} [FloatOps F]

/-- The index list's first column with its negative entries moved up by the number of the table's rows. -/
def wrapped (a : IVec S200000x16 32) : IVec S200000 32 :=
  select (cmpi .slt (shapeCast S200000 (extractStridedSlice S200000x1 ![0, 0] a slices_S200000x16_S200000x1_0_0) shapeCasts_S200000x1_S200000)
      (broadcastInDim S200000 ![] bcast_S_S200000 (constantI S_ 32 0#32)))
    (addi (shapeCast S200000 (extractStridedSlice S200000x1 ![0, 0] a slices_S200000x16_S200000x1_0_0) shapeCasts_S200000x1_S200000)
      (broadcastInDim S200000 ![] bcast_S_S200000 (constantI S_ 32 100001#32)))
    (shapeCast S200000 (extractStridedSlice S200000x1 ![0, 0] a slices_S200000x16_S200000x1_0_0) shapeCasts_S200000x1_S200000)

/-- The start rows the gather reads. -/
def starts (a : IVec S200000x16 32) : IVec S200000x1 32 := broadcastInDim S200000x1 ![0] bcast_S200000_S200000x1_0 (wrapped a)

/-- Which rows have an index in the table. -/
def mask (a : IVec S200000x16 32) : IVec S200000 1 :=
  Host.reduce IntOp.andi
    (andi (cmpi .sge (starts a) (broadcastInDim S200000x1 ![] bcast_S_S200000x1 (constantI S_ 32 0#32)))
      (cmpi .sle (starts a) (broadcastInDim S200000x1 ![0, 1] bcast_S1x1_S200000x1_0_1
        (broadcastInDim S1x1 ![1] bcast_S1_S1x1_1 (constantI S1 32 100000#32)))))
    (constantI S_ 1 1#1) reducesTo_S200000x1_S200000_d1 h_S_

/-- `x` with a row of zeros after it. -/
def table (X : FVec F S100000x128 .f32) : FVec F S100001x128 .f32 :=
  concatenate S100001x128 0 [⟨S100000x128, X⟩, ⟨S1x128, broadcastInDim S1x128 ![] bcast_S_S1x128 (constant S_ .f32 0x00000000#32)⟩]
    concatenates_S100000x128_S1x128_S100001x128_d0

/-- The reference's result. -/
def out (X : FVec F S100000x128 .f32) (a : IVec S200000x16 32) : FVec F S200000x128 .f32 :=
  select (broadcastInDim S200000x128 ![0] bcast_S200000_S200000x128_0 (mask a))
    (Host.gather gather_S100001x128_S200000x1_S200000x128_1_0_n_n_0_1_1128 (table X) (starts a))
    (broadcastInDim S200000x128 ![] bcast_S_S200000x128 (constant S_ .f32 0x7FC00000#32))

/-- An index in range is not negative, so it is not moved. -/
theorem wrapped_eq {a : IVec S200000x16 32} (h : InRange a) : wrapped a = column a := by
  funext j
  unfold wrapped
  rw [column_eq]
  refine if_neg fun e => ?_
  have e' : (column a j).toInt < (0#32).toInt := IntOp.cmpi_slt.1 e
  rw [toInt_of_lt (h j)] at e'
  exact absurd e' (Int.not_lt.2 (Int.natCast_nonneg _))

/-- The start row at `(r, 0)` is the column's word at `r`. -/
theorem starts_apply {a : IVec S200000x16 32} (h : InRange a) (j : S200000x1.Idx) : starts a j = column a (ix1 (j 0)) := by
  unfold starts
  rw [wrapped_eq h]
  refine broadcastInDim_apply _ _ _ _ _ fun b => ?_
  match b with
  | ⟨0, _⟩ => rfl

/-- Every row's index is in the table. -/
theorem mask_eq {a : IVec S200000x16 32} (h : InRange a) (j : S200000.Idx) : mask a j = 1#1 := by
  refine Host.reduce_andi_one _ _ _ _ _ rfl fun i => IntOp.andi_eq_one.2 ⟨IntOp.cmpi_sge.2 ?_, IntOp.cmpi_sle.2 ?_⟩
  · show (0#32).toInt ≤ (starts a i).toInt
    rw [starts_apply h, toInt_of_lt (h _)]
    simp
  · show (starts a i).toInt ≤ (100000#32).toInt
    rw [starts_apply h, toInt_of_lt (h _)]
    have := h (ix1 (i 0))
    simp only [BitVec.toInt_eq_toNat_cond, BitVec.toNat_ofNat, Nat.reducePow, Nat.reduceMod]
    omega

/-- Above its last row the table is `x`. -/
theorem table_apply (X : FVec F S100000x128 .f32) (r : Fin 100000) (c : Fin 128) :
    table X (ix2 ⟨r.val, by omega⟩ c) = X (ix2 r c) := by
  unfold table
  refine concatenate_pair_apply_left (t := S100001x128) 0 X _ _ _ (rfl : S100000x128.rank = S100001x128.rank) (ix2 r c) fun b => ?_
  match b with
  | ⟨0, _⟩ => rfl
  | ⟨1, _⟩ => rfl

/-- The gather reads, at `(r, c)`, column `c` of the row that the start at `r` names, cut off at the table's last row. -/
theorem gather_apply (Y : FVec F S100001x128 .f32) (s : IVec S200000x1 32) (j : S200000x128.Idx) :
    Host.gather gather_S100001x128_S200000x1_S200000x128_1_0_n_n_0_1_1128 Y s j
      = Y (ix2 ⟨min (s (ix2 (j 0) 0)).toInt.toNat 100000, by omega⟩ (j 1)) := by
  unfold Host.gather
  congr 1
  funext b
  refine Fin.ext ?_
  match b with
  | ⟨0, _⟩ =>
    show GatherDims.start _ j s 0 + GatherDims.batchCoord _ j 0 + GatherDims.offCoord _ j 0 = _
    rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S100001x128_S200000x1_S200000x128_1_0_n_n_0_1_1128 from List.mem_singleton.mpr rfl)]
    refine congrArg (fun i => min (s i).toInt.toNat 100000) (funext fun c => Fin.ext ?_)
    match c with
    | ⟨0, _⟩ => rfl
    | ⟨1, _⟩ => rfl
  | ⟨1, _⟩ =>
    show GatherDims.start _ j s 1 + GatherDims.batchCoord _ j 1 + GatherDims.offCoord _ j 1 = _
    rw [GatherDims.batchCoord_eq_zero _ _ _ (List.not_mem_nil)]
    have hs : GatherDims.start gather_S100001x128_S200000x1_S200000x128_1_0_n_n_0_1_1128 j s 1 = 0 := by
      unfold GatherDims.start
      rw [dif_neg]
      exact fun h => absurd (List.mem_singleton.1 h) (by decide)
    rw [hs]
    simp only [Nat.add_zero, Nat.zero_add]
    unfold GatherDims.offCoord
    rw [dif_pos (by decide)]
    rfl

/-- The reference's result is `taken`. -/
theorem out_eq (X : FVec F S100000x128 .f32) {a : IVec S200000x16 32} (h : InRange a) : out X a = taken X a := by
  funext j
  unfold out
  have hm : broadcastInDim S200000x128 ![0] bcast_S200000_S200000x128_0 (mask a) j = 1#1 := mask_eq h _
  have hw := h (ix1 (j 0))
  have hr : min (starts a (ix2 (j 0) 0)).toInt.toNat 100000 = (rowOf (column a (ix1 (j 0)))).val := by
    rw [starts_apply h, rowOf_val hw]
    show min (column a (ix1 (j 0))).toInt.toNat 100000 = _
    rw [toInt_of_lt hw, Int.toNat_natCast]
    omega
  show Scalar.select (broadcastInDim S200000x128 ![0] bcast_S200000_S200000x128_0 (mask a) j)
    (Host.gather gather_S100001x128_S200000x1_S200000x128_1_0_n_n_0_1_1128 (table X) (starts a) j) _ = _
  rw [hm, show ∀ u v : F .f32, Scalar.select 1#1 u v = u from fun u v => if_pos rfl, gather_apply]
  have hf : (⟨min (starts a (ix2 (j 0) 0)).toInt.toNat 100000, by omega⟩ : Fin 100001)
      = ⟨(rowOf (column a (ix1 (j 0)))).val, Nat.lt_succ_of_lt (rowOf _).isLt⟩ := Fin.ext hr
  refine (congrArg (fun r : Fin 100001 => table X (ix2 r (j 1))) hf).trans ?_
  exact table_apply X (rowOf (column a (ix1 (j 0)))) (j 1)

/-- The reference runs from any memory whose counters are zero; its result is `out` of its arguments, which end
    unchanged, and so do the counters, of which it has none. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v5) = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => h c, sem_eq_zero_of_no_sems (by decide) r.2⟩) (Cert.ReferenceIdeal.Value.run m ρ)

end Cert.Proof.Ref

end
-- ==== Proof.KernelIdealClaims.lean ====
/-
  The claims about the gather program `KernelIdeal`, from its run: it ends with its arguments unchanged and every counter at
  zero, and its result is the reference's.
-/
module

public import proofs.«01_k».proof.Defs
public import proofs.«01_k».proof.Proof.KernelIdealMain
public import proofs.«01_k».proof.Proof.Precondition
public import proofs.«01_k».proof.Proof.Reference

@[expose] public section

noncomputable section

namespace Cert.Proof.KernelIdealRun

open Cert.KernelIdeal Cert.KernelIdeal.Gen
open Idealize.ShloMosaic Idealize.SL.Sem
open Cert.Proof.Spec

variable {F : FTy → Type} [FloatOps F]

/-- With the list's first column in range, every entry of the list the call gets is. -/
theorem preOK_of {m : (ℓ : Loc nD τ sig) → Buf (Elt F) ℓ} (h : ∀ d, InRange (aC m d)) : PreOK m := by
  intro d j
  unfold idxList
  rw [column_eq]
  exact padded_lt _ _ (h d) j

/-- The program's result is `taken` of its two arguments. -/
theorem res_eq (m : (ℓ : Loc nD τ sig) → Buf (Elt F) ℓ) (d : Dev nD) : res m d = taken (xC m d) (aC m d) := by
  unfold res oC iC idxList
  rw [column_eq]
  exact slice_picked _ _ _ _ _

/-- `Cert.quiescent_KernelIdeal`: from the run, read at the arguments and the counters. -/
theorem frame : Cert.quiescent_KernelIdeal := fun m ρ hpre =>
  θ_run_mono (run_main (F := Ideal) m ρ (preOK_of fun d => inRange_of_pre (hpre d)))
    fun _ h => ⟨fun c => ⟨(h.1 c).1, (h.1 c).2.1⟩, h.2⟩

/-- `Cert.algebraic_KernelIdeal_ReferenceIdeal`: the program's result (`res_eq`) and the reference's (`Ref.out_eq`) are
    both `taken` of the same two arguments. -/
theorem algebraic : Cert.algebraic_KernelIdeal_ReferenceIdeal := by
  intro m ρ m' ρ' hpre hagree
  have hin (d) : InRange (aC m d) := inRange_of_pre (hpre d)
  refine ⟨fun c => res m c, θ_run_mono (run_main (F := Ideal) m ρ (preOK_of hin))
      fun _ h c => ⟨(h.1 c).2.2, (h.1 c).1, (h.1 c).2.1⟩, θ_run_mono (Cert.Proof.Ref.run (F := Ideal) m' ρ') fun _ h c => ?_⟩
  refine ⟨(h.1 c).1.trans ?_, (h.1 c).2⟩
  rw [(hagree c).1, (hagree c).2]
  exact (Cert.Proof.Ref.out_eq _ (hin c)).trans (res_eq m c).symm

end Cert.Proof.KernelIdealRun

end
-- ==== Proof.lean ====
/-
  The proof of `Cert.Claim`: the two programs of the kernel and the reference each run from any memory that meets the
  precondition, end with their arguments unchanged and their counters at zero, and the kernel's result over the reals is
  the reference's. Proof/Spec.lean and Proof/Taken.lean state what is computed, Proof/KernelIdealTile.lean what one vector
  subcore does, Proof/KernelIdealLaunch.lean the call, Proof/KernelIdealMain.lean the program's run, Proof/Reference.lean
  the reference, Proof/KernelIdealClaims.lean the claims; the `Kernel` modules say the same of the same program over bits.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_inds_in_range
public import proofs.«01_k».proof.Proof.KernelClaims
public import proofs.«01_k».proof.Proof.KernelIdealClaims

@[expose] public section

noncomputable section

namespace Cert.Proof

open Idealize.ShloMosaic Idealize.SL.Sem

/-- `Cert.quiescent_ReferenceIdeal`: the reference runs from any memory, its arguments end unchanged and its counters at
    zero. -/
theorem frame_reference : Cert.quiescent_ReferenceIdeal := fun m ρ _ =>
  θ_run_mono (Ref.run (F := Ideal) m ρ) fun _ h => ⟨fun c => (h.1 c).2, h.2⟩

/-- `Cert.quiescent_ReferenceIdeal_pre_inds_in_range`: the same where the precondition holds. -/
theorem frame_reference_pre : Cert.quiescent_ReferenceIdeal_pre_inds_in_range := fun m ρ _ =>
  frame_reference m ρ trivial

/-- All the claims. -/
theorem claim : Cert.Claim :=
  ⟨Cert.Kernel.Gen.facts, Cert.KernelIdeal.Gen.facts, Cert.ReferenceIdeal.Gen.facts, Cert.Pre_inds_in_range.Gen.facts,
    KernelRun.frame, KernelIdealRun.frame, frame_reference, frame_reference_pre, trivial, KernelIdealRun.algebraic⟩

end Cert.Proof

end
